-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x3x224x224 : Shape := ⟨4, ![128, 3, 224, 224]⟩
abbrev S1x3x30x30 : Shape := ⟨4, ![1, 3, 30, 30]⟩
abbrev S16x3x8x128 : Shape := ⟨4, ![16, 3, 8, 128]⟩
abbrev S1x3x40x128 : Shape := ⟨4, ![1, 3, 40, 128]⟩
abbrev S1x3x8x128 : Shape := ⟨4, ![1, 3, 8, 128]⟩

abbrev nBuf : Space → Nat
  | .hbm => 3
  | .vmem => 6
  | .smem => 0
  | _ => 0

abbrev bufTy : (tb : Table) → Fin (tcTables nBuf tb) → BufTy
  | .hbm, ⟨0, _⟩ => ⟨S128x3x224x224, .f32⟩
  | .hbm, ⟨1, _⟩ => ⟨S1x3x30x30, .f32⟩
  | .hbm, ⟨2, _⟩ => ⟨S128x3x224x224, .f32⟩
  | .local _ .vmem, ⟨0, _⟩ => ⟨S16x3x8x128, .f32⟩
  | .local _ .vmem, ⟨1, _⟩ => ⟨S16x3x8x128, .f32⟩
  | .local _ .vmem, ⟨2, _⟩ => ⟨S1x3x30x30, .f32⟩
  | .local _ .vmem, ⟨3, _⟩ => ⟨S16x3x8x128, .f32⟩
  | .local _ .vmem, ⟨4, _⟩ => ⟨S16x3x8x128, .f32⟩
  | .local _ .vmem, ⟨5, _⟩ => ⟨S1x3x40x128, .f32⟩
  | _, _ => ⟨S128x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 5], ![false, false]⟩

def k0_off1 (i : grid0.Coords) : Fin 4 → Nat :=
  let c0_4 : Index := 0#32
  let c0_5 : Index := 0#32
  let arg1 : BitVec 32 := BitVec.ofNat 32 (i 1).val
  let c8_i32 : BitVec 32 := 8#32
  let v5 : BitVec 32 := Scalar.muli arg1 c8_i32
  let v6 : Index := Scalar.indexCast v5
  let c0_6 : Index := 0#32
  ![0, 0, v6.toNat, 0]
def cc0_transform_0 (i : grid0.Coords) : Fin 4 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  let c0_i32_0 : BitVec 32 := 0#32
  let c0_i32_1 : BitVec 32 := 0#32
  ![arg0.toNat, c0_i32.toNat, v0.toNat, c0_i32_0.toNat]

abbrev stage0_0 : Fin 2 → Memref sig .tc .vmem S16x3x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x3x30x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S16x3x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S128x3x224x224 : Shape := ⟨4, ![128, 3, 224, 224]⟩
abbrev S1x3x30x30 : Shape := ⟨4, ![1, 3, 30, 30]⟩
abbrev S_ : Shape := ⟨0, ![]⟩
abbrev S1x3x224x224 : Shape := ⟨4, ![1, 3, 224, 224]⟩
abbrev S1 : Shape := ⟨1, ![1]⟩
abbrev S2 : Shape := ⟨1, ![2]⟩

abbrev nBuf : Space → Nat
  | .hbm => 12
  | .vmem => 0
  | .smem => 0
  | _ => 0

abbrev bufTy : (tb : Table) → Fin (tcTables nBuf tb) → BufTy
  | .hbm, ⟨0, _⟩ => ⟨S128x3x224x224, .f32⟩
  | .hbm, ⟨1, _⟩ => ⟨S1x3x30x30, .f32⟩
  | .hbm, ⟨2, _⟩ => ⟨S_, .f32⟩
  | .hbm, ⟨3, _⟩ => ⟨S1x3x224x224, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S1x3x224x224, .f32⟩
  | .hbm, ⟨10, _⟩ => ⟨S128x3x224x224, .f32⟩
  | .hbm, ⟨11, _⟩ => ⟨S128x3x224x224, .f32⟩
  | _, _ => ⟨S128x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Prompt.lean ====
/- What the kernel is meant to compute, in plain mathematics: a patch of 30 × 30 learned values per channel is laid on an
   otherwise zero image of 224 × 224 with its corner at row 172, column 47, and that image is added to every image of the batch. -/
module

public import Idealize.ShloMosaic.Lib.Pointwise

@[expose] public section

noncomputable section

namespace Cert.Prompt

open Idealize.ShloMosaic

/-- A batch of 128 images of 3 channels, 224 × 224 each. -/
abbrev Images : Shape := ⟨4, ![128, 3, 224, 224]⟩

/-- One patch of 3 channels, 30 × 30. -/
abbrev PatchShape : Shape := ⟨4, ![1, 3, 30, 30]⟩

/-- The prompt image at channel `ch`, row `r`, column `c`: the patch's value where row and column lie under the patch
    (rows 172 to 201, columns 47 to 76), zero elsewhere. -/
def promptAt (p : Vec Ideal PatchShape .f32) (ch : Fin 3) (r c : ℕ) : Ideal .f32 :=
  if h : (172 ≤ r ∧ r < 202) ∧ 47 ≤ c ∧ c < 77 then
    p (ValueIdx.ix4 (0 : Fin 1) ch (⟨r - 172, by omega⟩ : Fin 30) (⟨c - 47, by omega⟩ : Fin 30))
  else 0

/-- Every image of the batch with the prompt image added. -/
def prompted (x : Vec Ideal Images .f32) (p : Vec Ideal PatchShape .f32) : Vec Ideal Images .f32 := fun i =>
  x i + promptAt p (i 1) (i 2).val (i 3).val

/-- Under the patch, at row `172 + a` and column `47 + b`, the prompt image is the patch at `(a, b)`. -/
theorem promptAt_hit (p : Vec Ideal PatchShape .f32) (k : PatchShape.Idx) (ch : Fin 3) (r c : ℕ)
    (hch : ch = k 1) (hr : r = 172 + (k 2).val) (hc : c = 47 + (k 3).val) : promptAt p ch r c = p k := by
  have h2 : (k 2).val < 30 := (k 2).isLt
  have h3 : (k 3).val < 30 := (k 3).isLt
  subst hch hr hc
  unfold promptAt
  rw [dif_pos (by omega)]
  refine congrArg p (funext fun a => Fin.ext ?_)
  match a with
  | ⟨0, _⟩ => have h0 : (k 0).val < 1 := (k 0).isLt; show 0 = (k 0).val; omega
  | ⟨1, _⟩ => rfl
  | ⟨2, _⟩ => show 172 + (k 2).val - 172 = (k 2).val; omega
  | ⟨3, _⟩ => show 47 + (k 3).val - 47 = (k 3).val; omega

/-- Off the patch's rows or columns the prompt image is zero. -/
theorem promptAt_miss (p : Vec Ideal PatchShape .f32) (ch : Fin 3) (r c : ℕ)
    (h : ¬((172 ≤ r ∧ r < 202) ∧ 47 ≤ c ∧ c < 77)) : promptAt p ch r c = 0 := dif_neg h

end Cert.Prompt

end
-- ==== Proof.Canvas.lean ====
/- What the kernel's scratch canvas holds. The canvas is a strip of 40 rows and 128 columns, standing for rows 168 to 207 of the
   image and its first 128 columns. The first grid point zeroes it and lays the patch on it at row 4, column 47; no later point
   writes it. So after every point it holds the prompt image, cut to those rows and columns. -/
module

public import proofs.«01_k».proof.Proof.Gen.KernelIdeal.Value
public import proofs.«01_k».proof.Proof.Prompt
public import Idealize.ShloMosaic.Lib.Pipeline.ValueKit

@[expose] public section

noncomputable section

namespace Cert.Prompt

open Cert.KernelIdeal Cert.KernelIdeal.Gen Idealize.ShloMosaic Idealize.ShloMosaic.TcCoe Idealize.SL.Sem

/-- The prompt image cut to the strip that the canvas stands for. -/
def strip (p : Vec Ideal S1x3x30x30 .f32) : Vec Ideal S1x3x40x128 .f32 := fun y =>
  promptAt p (y 1) (168 + (y 2).val) (y 3).val

/-- The value that the canvas is cleared with is zero everywhere. -/
theorem cleared_apply (y : S1x3x40x128.Idx) : (k0_pay1 (F := Ideal)) y = 0 := by
  unfold k0_pay1; pointwise

/-- The patch goes onto the canvas as it is. -/
theorem laid_eq (p : Vec Ideal S1x3x30x30 .f32) : k0_pay2 p = p := by
  funext y
  unfold k0_pay2; pointwise

/-- Clearing the canvas and then laying the patch at row 4, column 47 leaves the strip of the prompt image. -/
theorem canvas_laid (p : Vec Ideal S1x3x30x30 .f32) :
    View.canon [⟨Rect.unit ![0, 0, 4, 47] ![1, 3, 30, 30] Facts₀.inb_S1x3x40x128_S1x3x30x30_0_0_4_47, k0_pay2 p⟩,
      ⟨Rect.unit ![0, 0, 0, 0] ![1, 3, 40, 128] Facts₀.inb_S1x3x40x128_S1x3x40x128_0_0_0_0, k0_pay1 (F := Ideal)⟩] = strip p := by
  funext y
  have h0 : (y 0).val < 1 := (y 0).isLt
  by_cases h : (4 ≤ (y 2).val ∧ (y 2).val < 34) ∧ 47 ≤ (y 3).val ∧ (y 3).val < 77
  · have e : (Rect.unit (s := S1x3x40x128) ![0, 0, 4, 47] ![1, 3, 30, 30] Facts₀.inb_S1x3x40x128_S1x3x30x30_0_0_4_47).emb
        (ValueIdx.ix4 (0 : Fin 1) (y 1) (⟨(y 2).val - 4, by omega⟩ : Fin 30) (⟨(y 3).val - 47, by omega⟩ : Fin 30)) = y := by
      refine Rect.emb_eq_of_coords _ _ _ fun a => ?_
      match a with
      | ⟨0, _⟩ => show (y 0).val = 0 + 1 * 0; omega
      | ⟨1, _⟩ => show (y 1).val = 0 + 1 * (y 1).val; omega
      | ⟨2, _⟩ => show (y 2).val = 4 + 1 * ((y 2).val - 4); omega
      | ⟨3, _⟩ => show (y 3).val = 47 + 1 * ((y 3).val - 47); omega
    rw [← e, View.canon_cons_emb, laid_eq, e]
    refine (promptAt_hit p _ _ _ _ rfl ?_ ?_).symm
    · show 168 + (y 2).val = 172 + ((y 2).val - 4); omega
    · show (y 3).val = 47 + ((y 3).val - 47); omega
  · rw [View.canon_cons_of_not_mem, View.canon_cons_unit_zero (by decide : ![0, 0, 0, 0] = fun _ => 0), cleared_apply]
    · exact (promptAt_miss p _ _ _ (by omega)).symm
    · intro hm
      rw [Rect.mem_set_unit] at hm
      have h2 : 4 ≤ (y 2).val ∧ (y 2).val < 4 + 30 := hm 2
      have h3 : 47 ≤ (y 3).val ∧ (y 3).val < 47 + 30 := hm 3
      omega

variable (m : (ℓ : Loc nD τ sig) → Buf (Elt Ideal) ℓ)

/-- Every grid point is given the whole patch. -/
theorem patch_block (c : Dev nD) (t : Fin cfg0.N) :
    (iblk m c 1 t : Vec Ideal S1x3x30x30 .f32) = m ((c.tc : Thread nD τ).loc main_arg1) := by
  have hi : ∀ t, (win0_1.index t) = ![0, 0, 0, 0] := by decide +kernel
  funext y
  blk_simp [iblk]
  rw [V_main_arg1]
  refine congrArg (m _) ?_
  blk_ext [hi]

/-- After every grid point the canvas holds the strip of the prompt image. -/
theorem canvas (c : Dev nD) (n : ℕ) (hn : n < cfg0.N) :
    (outsAt0 m c n hn).2 = strip (m ((c.tc : Thread nD τ).loc main_arg1)) := by
  induction n with
  | zero =>
    rw [outsAt0_A m c ⟨0, hn⟩ rfl]
    funext y
    frame_out
    rw [patch_block, canvas_laid]
  | succ n ih =>
    have hN : n + 1 < 40 := hn
    rw [outsAt0_B m c ⟨n + 1, hn⟩ (by show ¬(n + 1) % 40 = 0; omega)]
    exact ih _

end Cert.Prompt

end
-- ==== Proof.Band.lean ====
/- What the kernel writes. Grid point `(a, b)` takes 16 images from number `16 a`, their rows from `168 + 8 b` (8 of them) and their
   first 128 columns, and adds to them the 8 rows of the canvas from row `8 b`. The blocks so written cover rows 168 to 207 and
   columns 0 to 127; the patch lies inside; elsewhere the result keeps the input, to which the prompt image adds zero. -/
module

public import proofs.«01_k».proof.Proof.Canvas

@[expose] public section

noncomputable section

namespace Cert.Prompt

open Cert.KernelIdeal Cert.KernelIdeal.Gen Idealize.ShloMosaic Idealize.ShloMosaic.TcCoe Idealize.SL.Sem

variable (m : (ℓ : Loc nD τ sig) → Buf (Elt Ideal) ℓ)

/-- One point's sum, element by element: the block's element plus the canvas's, 8 rows per step of the second grid axis. -/
theorem added_apply (x : Vec Ideal S16x3x8x128 .f32) (p : Vec Ideal S1x3x30x30 .f32) (g : grid0.Coords) (y : S16x3x8x128.Idx) :
    k0_pay3 x (View.ld (strip p) (Rect.unit (s := S1x3x40x128) (k0_off1 g) ![1, 3, 8, 128] (Facts₀.k0_off1_inb g))) y
      = x y + promptAt p (y 1) (168 + 8 * (g 1).val + (y 2).val) (y 3).val := by
  unfold k0_pay3
  pointwise
  refine congrArg (x y + ·) ?_
  unfold strip
  have e := k0_off1_eq g
  have e1 : k0_off1 g 1 = 0 := congrFun e 1
  have e2 : k0_off1 g 2 = 8 * (g 1).val := congrFun e 2
  have e3 : k0_off1 g 3 = 0 := congrFun e 3
  congr 1
  · exact Fin.ext (by show k0_off1 g 1 + (y 1).val = (y 1).val; omega)
  · show 168 + (k0_off1 g 2 + (y 2).val) = _; omega
  · show k0_off1 g 3 + (y 3).val = _; omega

/-- The place in the batch of element `y` of the block that grid point `g` takes. -/
def placeOf (g : grid0.Coords) (y : S16x3x8x128.Idx) : Images.Idx :=
  ValueIdx.ix4 (⟨16 * (g 0).val + (y 0).val, by
      have h : (g 0).val < 8 := (g 0).isLt
      have h' : (y 0).val < 16 := (y 0).isLt
      omega⟩ : Fin 128) (y 1 : Fin 3)
    (⟨168 + 8 * (g 1).val + (y 2).val, by
      have h : (g 1).val < 5 := (g 1).isLt
      have h' : (y 2).val < 8 := (y 2).isLt
      omega⟩ : Fin 224)
    (⟨(y 3).val, by
      have h' : (y 3).val < 128 := (y 3).isLt
      omega⟩ : Fin 224)

/-- The input's copy, into which the kernel writes, starts as the input. -/
theorem copied (c : Dev nD) : V m c main_v0 = m ((c.tc : Thread nD τ).loc main_arg0) := by
  unfold V hostOps0
  after_results
  rfl

/-- The block of the input that a grid point is given. -/
theorem in_block (c : Dev nD) (t : Fin cfg0.N) :
    X0_0 m c t = fun y => m ((c.tc : Thread nD τ).loc main_arg0) (placeOf (grid0.coords t) y) := by
  have e0 : ∀ t : Fin cfg0.N, win0_0.index t = ![(grid0.coords t 0).val, 0, 21 + (grid0.coords t 1).val, 0] :=
    (by decide +kernel : ∀ t : Fin grid0.N, _)
  funext y
  unfold X0_0 Pipeline.Window.fill
  rw [dif_pos (moved0_0 t y)]
  blk_simp [iblk]
  rw [V_main_arg0]
  refine congrArg (m _) ?_
  unfold placeOf
  blk_ext [e0]

/-- The block that a grid point leaves in its output window: its part of the batch with the prompt image added. -/
theorem out_block (c : Dev nD) (t : Fin cfg0.N) :
    (outsAt0 m c t.val t.isLt).1 = fun y => prompted (m ((c.tc : Thread nD τ).loc main_arg0))
      (m ((c.tc : Thread nD τ).loc main_arg1)) (placeOf (grid0.coords t) y) := by
  funext y
  by_cases h : t.val % 40 = 0
  · rw [outsAt0_A m c t h]
    frame_out
    rw [patch_block, canvas_laid, in_block, added_apply]
    rfl
  · rw [outsAt0_B m c t h]
    frame_out
    rw [canvas]
    have e : View.read (Elt Ideal) (View.whole cc0_scratch0)
        ((Memref.isWhole_whole cc0_scratch0).unread (strip (m ((c.tc : Thread nD τ).loc main_arg1)))) = strip _ :=
      Memref.IsWhole.read_unread _ _
    rw [e, in_block, added_apply]
    rfl

/-- The blocks written are those of block rows 21 to 25 in block column 0, every one written back. -/
theorem band_covered :
    (cfg0.win 2).CoversWhere (fun β => 21 ≤ β (2 : Fin 4) ∧ β (2 : Fin 4) < 26 ∧ β (3 : Fin 4) = 0) := by decide +kernel

/-- The kernel's result: every image with the prompt image added. -/
theorem result_eq (c : Dev nD) :
    (dats m 0 c).arrAt 2 cfg0.N
      = prompted (m ((c.tc : Thread nD τ).loc main_arg0)) (m ((c.tc : Thread nD τ).loc main_arg1)) := by
  have e2 : ∀ t : Fin cfg0.N, win0_2.index t = ![(grid0.coords t 0).val, 0, 21 + (grid0.coords t 1).val, 0] :=
    (by decide +kernel : ∀ t : Fin grid0.N, _)
  refine (dats m 0 c).arrAt_eq_of_coversWhere_of_agree 2 _ _ band_covered (fun t _ y => ?_) (fun j hj => ?_)
  · blk_simp
    rw [after0_2, out_block]
    refine congrArg (prompted _ _) ?_
    have x : ∀ a, ((cfg0.win 2).xinj (cfg0.grid.coords t) y a).val = (y a).val := fun _ => rfl
    unfold placeOf
    blk_ext [e2, x]
  · blk_simp [Pipeline.Window.cell_apply] at hj
    rw [A_eq]
    show V m c main_v0 j = prompted _ _ j
    rw [copied]
    have z : promptAt (m ((c.tc : Thread nD τ).loc main_arg1)) (j 1) (j 2).val (j 3).val = 0 :=
      promptAt_miss _ _ _ _ (by omega)
    unfold prompted
    rw [z, add_zero]

end Cert.Prompt

end
-- ==== Proof.Reference.lean ====
/- What the reference computes: its scatter lays the patch on the zero image with its corner at row 172, column 47, and the image
   so made is added to every image of the batch. Its result is therefore `prompted` of its two arguments. -/
module

public import proofs.«01_k».proof.Proof.Gen.ReferenceIdeal.Run
public import proofs.«01_k».proof.Proof.Prompt
public import Idealize.ShloMosaic.Lib.Routing.OpsPair
public import Idealize.ShloMosaic.Lib.Routing.OpsSet

@[expose] public section

noncomputable section

namespace Cert.Prompt

open Cert.ReferenceIdeal Cert.ReferenceIdeal.Gen Idealize.ShloMosaic Idealize.ShloMosaic.Routing

/-- The dimension numbers of the reference's scatter. -/
abbrev placing : ScatterDims S1x3x224x224 S2 S1x3x30x30 := scatter_S1x3x224x224_S2_S1x3x30x30_0123_n_23_0

/-- The patch's element `k` lands at `i` exactly when `i` is `k` moved down by the first index word and right by the second. -/
theorem lands_iff (idx : IVec S2 32) (h0 : idx (ValueIdx.ix1 (0 : Fin 2)) = 172#32) (h1 : idx (ValueIdx.ix1 (1 : Fin 2)) = 47#32)
    (k : S1x3x30x30.Idx) (i : S1x3x224x224.Idx) :
    placing.resultIdx? k idx = some i ↔
      (i 1).val = (k 1).val ∧ (i 2).val = 172 + (k 2).val ∧ (i 3).val = 47 + (k 3).val := by
  have w : ∀ a : Fin 4, placing.window k a = (k a).val := fun a => by fin_cases a <;> rfl
  have s0 : placing.start k idx 0 = 0 := rfl
  have s1 : placing.start k idx 1 = 0 := rfl
  have s2 : placing.start k idx 2 = 172 := by
    have e : placing.start k idx 2 = (idx (ValueIdx.ix1 (0 : Fin 2))).toInt :=
      congrArg (fun j => (idx j).toInt) (funext fun b => by fin_cases b; rfl)
    rw [e, h0]; rfl
  have s3 : placing.start k idx 3 = 47 := by
    have e : placing.start k idx 3 = (idx (ValueIdx.ix1 (1 : Fin 2))).toInt :=
      congrArg (fun j => (idx j).toInt) (funext fun b => by fin_cases b; rfl)
    rw [e, h1]; rfl
  have hk : (k 0).val < 1 := (k 0).isLt
  have hi : (i 0).val < 1 := (i 0).isLt
  rw [resultIdx?_eq_some]
  constructor
  · intro h
    have e1 := h 1; have e2 := h 2; have e3 := h 3
    rw [w, s1] at e1; rw [w, s2] at e2; rw [w, s3] at e3
    omega
  · rintro ⟨e1, e2, e3⟩ a
    match a with
    | ⟨0, _⟩ => show placing.start k idx 0 + (placing.window k 0 : Int) = _; rw [w, s0]; show 0 + ((k 0).val : Int) = (i 0).val; omega
    | ⟨1, _⟩ => show placing.start k idx 1 + (placing.window k 1 : Int) = _; rw [w, s1]; show 0 + ((k 1).val : Int) = (i 1).val; omega
    | ⟨2, _⟩ => show placing.start k idx 2 + (placing.window k 2 : Int) = _; rw [w, s2]; show 172 + ((k 2).val : Int) = (i 2).val; omega
    | ⟨3, _⟩ => show placing.start k idx 3 + (placing.window k 3 : Int) = _; rw [w, s3]; show 47 + ((k 3).val : Int) = (i 3).val; omega

/-- Laying the patch on an image of zeros gives the prompt image. -/
theorem placed_eq (z : Vec Ideal S1x3x224x224 .f32) (hz : ∀ i, z i = 0) (idx : IVec S2 32)
    (h0 : idx (ValueIdx.ix1 (0 : Fin 2)) = 172#32) (h1 : idx (ValueIdx.ix1 (1 : Fin 2)) = 47#32)
    (p : Vec Ideal S1x3x30x30 .f32) (i : S1x3x224x224.Idx) :
    Host.scatter placing (fun _ b => b) z idx p i = promptAt p (i 1) (i 2).val (i 3).val := by
  by_cases h : (172 ≤ (i 2).val ∧ (i 2).val < 202) ∧ 47 ≤ (i 3).val ∧ (i 3).val < 77
  · refine scatter_set_hit placing z idx p i _ (fun k hk => ?_)
      (ValueIdx.ix4 (0 : Fin 1) (i 1) (⟨(i 2).val - 172, by omega⟩ : Fin 30) (⟨(i 3).val - 47, by omega⟩ : Fin 30)) ?_
    · obtain ⟨e1, e2, e3⟩ := (lands_iff idx h0 h1 k i).1 hk
      exact (promptAt_hit p k _ _ _ (Fin.ext e1) e2 e3).symm
    · refine (lands_iff idx h0 h1 _ i).2 ⟨rfl, ?_, ?_⟩
      · show (i 2).val = 172 + ((i 2).val - 172); omega
      · show (i 3).val = 47 + ((i 3).val - 47); omega
  · rw [scatter_set_miss placing z idx p i fun k hk => h ?_, hz]
    · exact (promptAt_miss p _ _ _ h).symm
    · obtain ⟨e1, e2, e3⟩ := (lands_iff idx h0 h1 k i).1 hk
      have b2 : (k 2).val < 30 := (k 2).isLt
      have b3 : (k 3).val < 30 := (k 3).isLt
      omega

/-- The value of the reference's result, from its two arguments. -/
theorem reference_eq (x : Vec Ideal S128x3x224x224 .f32) (p : Vec Ideal S1x3x30x30 .f32) :
    addf (F := Ideal) x (broadcastInDim S128x3x224x224 ![0, 1, 2, 3] Facts₀.bcast_S1x3x224x224_S128x3x224x224_0_1_2_3
      (Host.scatter placing (fun _ b => b)
        (broadcastInDim S1x3x224x224 ![] Facts₀.bcast_S_S1x3x224x224 (constant (F := Ideal) S_ .f32 0x00000000#32))
        (concatenate S2 0 [⟨S1, broadcastInDim S1 ![] Facts₀.bcast_S_S1 (constantI S_ 32 172#32)⟩,
          ⟨S1, broadcastInDim S1 ![] Facts₀.bcast_S_S1 (constantI S_ 32 47#32)⟩] Facts₀.concatenates_S1_S1_S2_d0) p))
      = prompted x p := by
  funext i
  pointwise
  rw [placed_eq _ (fun j => by pointwise) _ (by pointwise) (by pointwise)]
  rfl

end Cert.Prompt

end
-- ==== Proof.lean ====
/- The five claims about the kernel. The three programs run to the end, leave their arguments as they were and every semaphore
   counter at zero (`frame_kernel`, `frame_ideal`, `frame_reference`); the idealized kernel is the kernel's own text
   (`preserves`); and kernel and reference end with the same array, both being every image of the batch with the prompt image
   added (`algebraic`, from `result_eq` in Proof/Band.lean and `reference_eq` in Proof/Reference.lean). -/
module

public import proofs.«01_k».proof.Defs
public import proofs.«01_k».proof.Proof.Gen.Kernel.Frame
public import proofs.«01_k».proof.Proof.Gen.KernelIdeal.Frame
public import proofs.«01_k».proof.Proof.Band
public import proofs.«01_k».proof.Proof.Reference
public import Idealize.ShloMosaic.Lib.Quiescent

@[expose] public section

noncomputable section

namespace Cert.Proof

open Idealize.ShloMosaic Idealize.SL.Sem

/-- The kernel at machine floats runs to the end, its arguments unchanged and its counters back at zero. -/
theorem frame_kernel : Cert.quiescent_Kernel := fun m ρ _ => Cert.Kernel.Gen.frame m ρ

/-- The same of the kernel at extended reals. -/
theorem frame_ideal : Cert.quiescent_KernelIdeal := fun m ρ _ => Cert.KernelIdeal.Gen.frame m ρ

/-- The same of the reference, which has no semaphores at all. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- No operation was rewritten between the kernel and its idealization. -/
theorem preserves : Cert.preserves_Kernel_KernelIdeal := trivial

/-- From arguments that agree, kernel and reference both end with the batch prompted: the same array. -/
theorem algebraic : Cert.algebraic_KernelIdeal_ReferenceIdeal := by
  intro m ρ m' ρ' _ agree
  refine ⟨fun c => Cert.Prompt.prompted (m (c.tc.loc Cert.KernelIdeal.main_arg0)) (m (c.tc.loc Cert.KernelIdeal.main_arg1)), ?_, ?_⟩
  · refine (θ_run Cert.KernelIdeal.defs _ _).mono (fun r h c => ?_) (Cert.KernelIdeal.Value.run_blocks m ρ)
    exact ⟨(h c).1.trans (Cert.Prompt.result_eq m c), (h c).2⟩
  · refine (θ_run Cert.ReferenceIdeal.defs _ _).mono (fun r h c => ?_) (Cert.ReferenceIdeal.Value.run (F := Ideal) m' ρ')
    refine ⟨(h c).1.trans ((Cert.Prompt.reference_eq _ _).trans ?_), (h c).2⟩
    rw [(agree c).1, (agree c).2]

/-- All five claims together. -/
theorem claim : Cert.Claim :=
  ⟨Cert.Kernel.Gen.facts, Cert.KernelIdeal.Gen.facts, Cert.ReferenceIdeal.Gen.facts,
    frame_kernel, frame_ideal, frame_reference, preserves, algebraic⟩

end Cert.Proof

end
